-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x64x64 : Shape := ⟨4, ![4, 512, 64, 64]⟩
abbrev S4x1x64x64 : Shape := ⟨4, ![4, 1, 64, 64]⟩
abbrev S8x512x64x64 : Shape := ⟨4, ![8, 512, 64, 64]⟩
abbrev S4x512x4096 : Shape := ⟨3, ![4, 512, 4096]⟩
abbrev S4x1x4096 : Shape := ⟨3, ![4, 1, 4096]⟩
abbrev S8x512x4096 : Shape := ⟨3, ![8, 512, 4096]⟩
abbrev S8x512 : Shape := ⟨2, ![8, 512]⟩
abbrev S1x512x4096 : Shape := ⟨3, ![1, 512, 4096]⟩
abbrev S1x1x4096 : Shape := ⟨3, ![1, 1, 4096]⟩
abbrev S512x4096 : Shape := ⟨2, ![512, 4096]⟩
abbrev S1x4096 : Shape := ⟨2, ![1, 4096]⟩
abbrev S512 : Shape := ⟨1, ![512]⟩
abbrev S1 : Shape := ⟨1, ![1]⟩
abbrev S1x1x1 : Shape := ⟨3, ![1, 1, 1]⟩
abbrev S1x512 : Shape := ⟨2, ![1, 512]⟩
abbrev S5x512 : Shape := ⟨2, ![5, 512]⟩
abbrev S8x1x4096 : Shape := ⟨3, ![8, 1, 4096]⟩
abbrev S1x1 : Shape := ⟨2, ![1, 1]⟩
abbrev S4096 : Shape := ⟨1, ![4096]⟩
abbrev S8x2x4096 : Shape := ⟨3, ![8, 2, 4096]⟩
abbrev S8x2x64x64 : Shape := ⟨4, ![8, 2, 64, 64]⟩

abbrev nBuf : Space → Nat
  | .hbm => 11
  | .vmem => 12
  | .smem => 0
  | _ => 0

abbrev bufTy : (tb : Table) → Fin (tcTables nBuf tb) → BufTy
  | .hbm, ⟨0, _⟩ => ⟨S4x512x64x64, .f32⟩
  | .hbm, ⟨1, _⟩ => ⟨S4x1x64x64, .f32⟩
  | .hbm, ⟨2, _⟩ => ⟨S8x512x64x64, .f32⟩
  | .hbm, ⟨3, _⟩ => ⟨S4x512x4096, .f32⟩
  | .hbm, ⟨4, _⟩ => ⟨S4x1x4096, .f32⟩
  | .hbm, ⟨5, _⟩ => ⟨S8x512x4096, .f32⟩
  | .hbm, ⟨6, _⟩ => ⟨S8x512, .f32⟩
  | .hbm, ⟨7, _⟩ => ⟨S8x1x4096, .f32⟩
  | .hbm, ⟨8, _⟩ => ⟨S8x1x4096, .f32⟩
  | .hbm, ⟨9, _⟩ => ⟨S8x2x4096, .f32⟩
  | .hbm, ⟨10, _⟩ => ⟨S8x2x64x64, .f32⟩
  | .local _ .vmem, ⟨0, _⟩ => ⟨S1x512x4096, .f32⟩
  | .local _ .vmem, ⟨1, _⟩ => ⟨S1x512x4096, .f32⟩
  | .local _ .vmem, ⟨2, _⟩ => ⟨S1x1x4096, .f32⟩
  | .local _ .vmem, ⟨3, _⟩ => ⟨S1x1x4096, .f32⟩
  | .local _ .vmem, ⟨4, _⟩ => ⟨S8x512, .f32⟩
  | .local _ .vmem, ⟨5, _⟩ => ⟨S1x512x4096, .f32⟩
  | .local _ .vmem, ⟨6, _⟩ => ⟨S1x512x4096, .f32⟩
  | .local _ .vmem, ⟨7, _⟩ => ⟨S8x512, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | _, _ => ⟨S4x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "inv_temp" => some ((134217728 / 9395241 : ℝ) : EReal)
  | _ => none
-- ==== ReferenceIdeal.lean ====
abbrev S4x512x64x64 : Shape := ⟨4, ![4, 512, 64, 64]⟩
abbrev S4x1x64x64 : Shape := ⟨4, ![4, 1, 64, 64]⟩
abbrev S8x512x64x64 : Shape := ⟨4, ![8, 512, 64, 64]⟩
abbrev S_ : Shape := ⟨0, ![]⟩
abbrev S512 : Shape := ⟨1, ![512]⟩
abbrev S8x64x64 : Shape := ⟨3, ![8, 64, 64]⟩
abbrev S8x1x64x64 : Shape := ⟨4, ![8, 1, 64, 64]⟩
abbrev S1x512 : Shape := ⟨2, ![1, 512]⟩
abbrev S1 : Shape := ⟨1, ![1]⟩
abbrev S1x1 : Shape := ⟨2, ![1, 1]⟩
abbrev S8x2x64x64 : Shape := ⟨4, ![8, 2, 64, 64]⟩

abbrev nBuf : Space → Nat
  | .hbm => 63
  | .vmem => 0
  | .smem => 0
  | _ => 0

abbrev bufTy : (tb : Table) → Fin (tcTables nBuf tb) → BufTy
  | .hbm, ⟨0, _⟩ => ⟨S4x512x64x64, .f32⟩
  | .hbm, ⟨1, _⟩ => ⟨S4x1x64x64, .f32⟩
  | .hbm, ⟨2, _⟩ => ⟨S8x512x64x64, .f32⟩
  | .hbm, ⟨3, _⟩ => ⟨S_, .f32⟩
  | .hbm, ⟨4, _⟩ => ⟨S_, .f32⟩
  | .hbm, ⟨5, _⟩ => ⟨S4x512x64x64, .f32⟩
  | .hbm, ⟨6, _⟩ => ⟨S4x512x64x64, .f32⟩
  | .hbm, ⟨7, _⟩ => ⟨S_, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S_, .i1⟩
  | .hbm, ⟨20, _⟩ => ⟨S512, .f32⟩
  | .hbm, ⟨21, _⟩ => ⟨S8x512x64x64, .f32⟩
  | .hbm, ⟨22, _⟩ => ⟨S_, .f32⟩
  | .hbm, ⟨23, _⟩ => ⟨S8x64x64, .f32⟩
  | .hbm, ⟨24, _⟩ => ⟨S8x1x64x64, .f32⟩
  | .hbm, ⟨25, _⟩ => ⟨S8x1x64x64, .f32⟩
  | .hbm, ⟨26, _⟩ => ⟨S_, .f32⟩
  | .hbm, ⟨27, _⟩ => ⟨S8x1x64x64, .f32⟩
  | .hbm, ⟨28, _⟩ => ⟨S8x1x64x64, .f32⟩
  | .hbm, ⟨29, _⟩ => ⟨S8x512x64x64, .f32⟩
  | .hbm, ⟨30, _⟩ => ⟨S8x512x64x64, .f32⟩
  | .hbm, ⟨31, _⟩ => ⟨S1x512, .f32⟩
  | .hbm, ⟨32, _⟩ => ⟨S1x512, .f32⟩
  | .hbm, ⟨33, _⟩ => ⟨S_, .f32⟩
  | .hbm, ⟨34, _⟩ => ⟨S1, .f32⟩
  | .hbm, ⟨35, _⟩ => ⟨S1x1, .f32⟩
  | .hbm, ⟨36, _⟩ => ⟨S1x1, .f32⟩
  | .hbm, ⟨37, _⟩ => ⟨S_, .f32⟩
  | .hbm, ⟨38, _⟩ => ⟨S1x1, .f32⟩
  | .hbm, ⟨39, _⟩ => ⟨S1x1, .f32⟩
  | .hbm, ⟨40, _⟩ => ⟨S1x512, .f32⟩
  | .hbm, ⟨41, _⟩ => ⟨S1x512, .f32⟩
  | .hbm, ⟨42, _⟩ => ⟨S512, .f32⟩
  | .hbm, ⟨43, _⟩ => ⟨S8x64x64, .f32⟩
  | .hbm, ⟨44, _⟩ => ⟨S_, .f32⟩
  | .hbm, ⟨45, _⟩ => ⟨S8x64x64, .f32⟩
  | .hbm, ⟨46, _⟩ => ⟨S_, .f32⟩
  | .hbm, ⟨47, _⟩ => ⟨S8x64x64, .f32⟩
  | .hbm, ⟨48, _⟩ => ⟨S8x64x64, .f32⟩
  | .hbm, ⟨49, _⟩ => ⟨S_, .f32⟩
  | .hbm, ⟨50, _⟩ => ⟨S8x64x64, .f32⟩
  | .hbm, ⟨51, _⟩ => ⟨S8x64x64, .f32⟩
  | .hbm, ⟨52, _⟩ => ⟨S8x64x64, .f32⟩
  | .hbm, ⟨53, _⟩ => ⟨S8x64x64, .f32⟩
  | .hbm, ⟨54, _⟩ => ⟨S_, .f32⟩
  | .hbm, ⟨55, _⟩ => ⟨S8x64x64, .f32⟩
  | .hbm, ⟨56, _⟩ => ⟨S8x64x64, .f32⟩
  | .hbm, ⟨57, _⟩ => ⟨S_, .f32⟩
  | .hbm, ⟨58, _⟩ => ⟨S8x64x64, .f32⟩
  | .hbm, ⟨59, _⟩ => ⟨S8x64x64, .f32⟩
  | .hbm, ⟨60, _⟩ => ⟨S8x1x64x64, .f32⟩
  | .hbm, ⟨61, _⟩ => ⟨S8x1x64x64, .f32⟩
  | .hbm, ⟨62, _⟩ => ⟨S8x2x64x64, .f32⟩
  | _, _ => ⟨S4x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Proof.KRun.lean ====
/- The run of the kernel's idealization with its result named: the launch set-up of the generated frame, read at the
   result array as well as at the arguments. -/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel's @main from zero counters terminates with the result array at the contents `W4` the
    fold over @main's segments gives it, and with the three argument arrays as launched. -/
theorem run : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨h c _ (mem_uc main_v6 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c)⟩)

end Cert.KernelIdeal.Val

end
-- ==== Proof.Proto.lean ====
/- The prototype region of the kernel's idealization at `Ideal`: rows 0, 1 and 2 of the array it leaves are the sums over
   the four blocks of the features, of the masked features and of the mask. -/
module

public import proofs.«01_k».proof.Proof.KRun
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.SL.Sem

/-- Row 0 of what one point stores: the accumulator's entry plus the block's features summed over its positions. -/
theorem pay_row0 (x0 : Vec Ideal S1x512x4096 .f32) (x1 : Vec Ideal S1x1x4096 .f32) (acc : Vec Ideal S8x512 .f32)
    (k : Fin 512) :
    k0_pay2 x0 x1 acc (ix2 0 k) = acc (ix2 0 k) + ∑ p : Fin 4096, x0 (ix3 0 k p) := by
  pointwise [k0_pay2]

/-- Row 1 of what one point stores: the accumulator's entry plus the masked features summed over the positions. -/
theorem pay_row1 (x0 : Vec Ideal S1x512x4096 .f32) (x1 : Vec Ideal S1x1x4096 .f32) (acc : Vec Ideal S8x512 .f32)
    (k : Fin 512) :
    k0_pay2 x0 x1 acc (ix2 1 k) = acc (ix2 1 k) + ∑ p : Fin 4096, x0 (ix3 0 k p) * x1 (ix3 0 0 p) := by
  pointwise [k0_pay2]

/-- Row 2 of what one point stores: the accumulator's entry plus the mask summed over the positions. -/
theorem pay_row2 (x0 : Vec Ideal S1x512x4096 .f32) (x1 : Vec Ideal S1x1x4096 .f32) (acc : Vec Ideal S8x512 .f32)
    (k : Fin 512) :
    k0_pay2 x0 x1 acc (ix2 2 k) = acc (ix2 2 k) + ∑ p : Fin 4096, x1 (ix3 0 0 p) := by
  pointwise [k0_pay2]
  exact congrArg _ (Fin.sum_univ_one _)

/-- The reset stores zero everywhere. -/
theorem pay_zero (j : S8x512.Idx) : k0_pay1 (F := Ideal) j = 0 := by
  pointwise [k0_pay1]

variable (V : (c : Dev nD) → (b : Ref sig .tc) → Buf (Elt Ideal) ((c : Thread nD τ).loc b))

/-- The block indices of the region's two input windows: the batch number, then zeros. -/
theorem idx0 : ∀ t : Fin cfg0.N, win0_0.index t = ![t.val, 0, 0] ∧ win0_1.index t = ![t.val, 0, 0] := by decide +kernel

/-- The features as the region finds them. -/
abbrev feat (c : Dev nD) : S4x512x4096.Idx → EReal := V c main_v0
/-- The mask as the region finds it. -/
abbrev msk (c : Dev nD) : S4x1x4096.Idx → EReal := V c main_v1

/-- The feature block at a point is that batch's slice of the features. -/
theorem blk_feat (c : Dev nD) (t : Fin cfg0.N) (k : Fin 512) (p : Fin 4096) :
    (iblk0 V c 0 t : Vec Ideal S1x512x4096 .f32) (ix3 0 k p) = feat V c (ix3 ⟨t.val, lt_of_lt_of_eq t.isLt N_0⟩ k p) := by
  blk_ext [iblk0, idx0 t]

/-- The mask block at a point is that batch's slice of the mask. -/
theorem blk_msk (c : Dev nD) (t : Fin cfg0.N) (p : Fin 4096) :
    (iblk0 V c 1 t : Vec Ideal S1x1x4096 .f32) (ix3 0 0 p) = msk V c (ix3 ⟨t.val, lt_of_lt_of_eq t.isLt N_0⟩ 0 p) := by
  blk_ext [iblk0, idx0 t]

/-- What the last point leaves is what the array ends holding: its block is the whole array. -/
theorem arr_last (c : Dev nD) (j : S8x512.Idx) :
    ((dat0 V c).arrAt 2 cfg0.N : S8x512.Idx → EReal) j = outsAt0 V c t0_3.val t0_3.isLt j := by
  refine congrFun ((dat0 V c).arrAt_eq_of_after_last 2 t0_3 (by decide +kernel) (outsAt0 V c t0_3.val t0_3.isLt) fun j => ?_) j
  rw [after0_2]
  blk_simp
  rfl

/-- Row 0 of the array: the features summed over batches and positions. -/
theorem arr_row0 (c : Dev nD) (k : Fin 512) :
    ((dat0 V c).arrAt 2 cfg0.N : S8x512.Idx → EReal) (ix2 0 k) = ∑ i : Fin 4, ∑ p : Fin 4096, feat V c (ix3 i k p) := by
  rw [arr_last]
  refine (Pipeline.eq_sum_fin_of_reset_step_apply_last (fun n h (k : Fin 512) => (outsAt0 V c n h (ix2 0 k) : EReal)) 4 (fun _ => 0)
      (fun (t : Fin cfg0.N) k => ∑ p : Fin 4096, feat V c (ix3 ⟨t.val, lt_of_lt_of_eq t.isLt N_0⟩ k p))
      (fun t h k => by rw [outsAt0_A V c t h]; frame_out; rw [pay_row0, pay_zero]; simp only [blk_feat])
      (fun t h k => by rw [outsAt0_B V c t h]; frame_out; rw [pay_row0]; simp only [blk_feat])
      (le_of_eq N_0) t0_3 rfl k).trans ?_
  rw [zero_add]
  exact Fintype.sum_equiv (finCongr N_0) _ _ fun t => rfl

/-- Row 1 of the array: the masked features summed over batches and positions. -/
theorem arr_row1 (c : Dev nD) (k : Fin 512) :
    ((dat0 V c).arrAt 2 cfg0.N : S8x512.Idx → EReal) (ix2 1 k) = ∑ i : Fin 4, ∑ p : Fin 4096, feat V c (ix3 i k p) * msk V c (ix3 i 0 p) := by
  rw [arr_last]
  refine (Pipeline.eq_sum_fin_of_reset_step_apply_last (fun n h (k : Fin 512) => (outsAt0 V c n h (ix2 1 k) : EReal)) 4 (fun _ => 0)
      (fun (t : Fin cfg0.N) k => ∑ p : Fin 4096, feat V c (ix3 ⟨t.val, lt_of_lt_of_eq t.isLt N_0⟩ k p) * msk V c (ix3 ⟨t.val, lt_of_lt_of_eq t.isLt N_0⟩ 0 p))
      (fun t h k => by rw [outsAt0_A V c t h]; frame_out; rw [pay_row1, pay_zero]; simp only [blk_feat, blk_msk])
      (fun t h k => by rw [outsAt0_B V c t h]; frame_out; rw [pay_row1]; simp only [blk_feat, blk_msk])
      (le_of_eq N_0) t0_3 rfl k).trans ?_
  rw [zero_add]
  exact Fintype.sum_equiv (finCongr N_0) _ _ fun t => rfl

/-- Row 2 of the array: the mask summed over batches and positions. -/
theorem arr_row2 (c : Dev nD) (k : Fin 512) :
    ((dat0 V c).arrAt 2 cfg0.N : S8x512.Idx → EReal) (ix2 2 k) = ∑ i : Fin 4, ∑ p : Fin 4096, msk V c (ix3 i 0 p) := by
  rw [arr_last]
  refine (Pipeline.eq_sum_fin_of_reset_step_apply_last (fun n h (k : Fin 512) => (outsAt0 V c n h (ix2 2 k) : EReal)) 4 (fun _ => 0)
      (fun (t : Fin cfg0.N) k => ∑ p : Fin 4096, msk V c (ix3 ⟨t.val, lt_of_lt_of_eq t.isLt N_0⟩ 0 p))
      (fun t h k => by rw [outsAt0_A V c t h]; frame_out; rw [pay_row2, pay_zero]; simp only [blk_msk])
      (fun t h k => by rw [outsAt0_B V c t h]; frame_out; rw [pay_row2]; simp only [blk_msk])
      (le_of_eq N_0) t0_3 rfl k).trans ?_
  rw [zero_add]
  exact Fintype.sum_equiv (finCongr N_0) _ _ fun t => rfl

end Cert.KernelIdeal.Val

end
-- ==== Proof.Score.lean ====
/- The extended-real mathematics of the kernel and the reference, and that the two agree: the constants as reals, the
   prototype, the norm, and the scaled cosine score with its division by the norm taken inside or outside the sum. -/
module

public import Idealize.ShloMosaic.PureOps.Ideal
public import Mathlib.Data.EReal.Inv

@[expose] public section

noncomputable section

namespace Cert.Score

open Idealize.ShloMosaic

/-- The floor of the mask count, 1e-6 as its float word. -/
abbrev eps6 : EReal := Ideal.ofBits .f32 0x358637BD#32
/-- The floor of a norm, 1e-12 as its float word. -/
abbrev eps12 : EReal := Ideal.ofBits .f32 0x2B8CBCCC#32
/-- The weight 0.3 as its float word. -/
abbrev beta : EReal := Ideal.ofBits .f32 0x3E99999A#32
/-- The weight 0.7 as its float word. -/
abbrev resid : EReal := Ideal.ofBits .f32 0x3F333333#32
/-- The temperature 0.07 as its float word. -/
abbrev temp : EReal := Ideal.ofBits .f32 0x3D8F5C29#32

/-- The count of positions, 16384. -/
theorem count_val : Ideal.ofBits .f32 0x46800000#32 = ((16384 : ℝ) : EReal) := by
  simp [Ideal.ofBits, Ideal.ieee, -EReal.coe_mul]; norm_num

/-- The kernel's literal 1/16384 is exact. -/
theorem inv_count_val : Ideal.ofBits .f32 0x38800000#32 = ((1 / 16384 : ℝ) : EReal) := by
  simp [Ideal.ofBits, Ideal.ieee, -EReal.coe_mul]; norm_num

/-- The temperature's word denotes 9395241 / 2^27. -/
theorem temp_val : temp = ((9395241 / 134217728 : ℝ) : EReal) := by
  simp [temp, Ideal.ofBits, Ideal.ieee, -EReal.coe_mul]; norm_num

/-- The floor of a norm is a positive real. -/
theorem eps12_pos : 0 < eps12 := by
  simp [eps12, Ideal.ofBits, Ideal.ieee, -EReal.coe_mul]

/-- One entry of the prototype from the feature sum, the masked sum and the mask's sum: the mean over all positions where
    the mask is empty, the mean over the mask elsewhere. -/
def raw (S M N : EReal) : EReal :=
  if N < eps6 then Ideal.div S (Ideal.ofBits .f32 0x46800000#32) else Ideal.div M (max N eps6)

/-- Multiplying by 1/16384 is dividing by 16384. -/
theorem mul_inv_count (S : EReal) :
    S * Ideal.ofBits .f32 0x38800000#32 = Ideal.div S (Ideal.ofBits .f32 0x46800000#32) := by
  rw [count_val, inv_count_val, Ideal.div_coe (by norm_num)]

/-- A vector's Euclidean norm over the channels, floored. -/
def nrm (x : Fin 512 → EReal) : EReal := max (Ideal.sqrt (∑ c, x c * x c)) eps12

/-- Division by a floored norm is multiplication by one nonnegative real, whatever the numerator: by its inverse where the
    norm is finite, by zero where it is infinite. -/
theorem div_nrm (x : Fin 512 → EReal) : ∃ a : ℝ, 0 ≤ a ∧ ∀ y, Ideal.div y (nrm x) = y * (a : EReal) := by
  have hpos : 0 < nrm x := lt_of_lt_of_le eps12_pos (le_max_right _ _)
  generalize nrm x = n at hpos
  induction n with
  | bot => exact absurd hpos (by simp)
  | top => exact ⟨0, le_rfl, fun y => by rw [Ideal.div, if_neg (by simp), EReal.inv_top, EReal.coe_zero]⟩
  | coe r =>
    have hr : 0 < r := by exact_mod_cast hpos
    exact ⟨1 / r, by positivity, fun y => Ideal.div_coe hr.ne' y⟩

/-- A nonnegative real factor moves out of a sum of extended reals. -/
theorem sum_mul_coe {ι : Type*} (s : Finset ι) (f : ι → EReal) {a : ℝ} (ha : 0 ≤ a) :
    ∑ i ∈ s, f i * (a : EReal) = (∑ i ∈ s, f i) * (a : EReal) := by
  classical
  induction s using Finset.induction_on with
  | empty => simp
  | insert i s hi ih =>
    rw [Finset.sum_insert hi, Finset.sum_insert hi, ih,
      EReal.right_distrib_of_nonneg_of_ne_top (by exact_mod_cast ha) (EReal.coe_ne_top a)]

/-- The reference's foreground score of a prototype `g` and a query vector `q`. -/
def score (g q : Fin 512 → EReal) : EReal :=
  beta * (∑ c, Ideal.div (q c) (nrm q) * Ideal.div (g c) (nrm g)) + resid * 0

/-- The kernel's foreground score: the query's norm divides the weighted sum once. -/
def kscore (g q : Fin 512 → EReal) : EReal :=
  Ideal.div (beta * ∑ c, Ideal.div (g c) (nrm g) * q c) (nrm q)

/-- The two scores are equal. -/
theorem kscore_eq (g q : Fin 512 → EReal) : kscore g q = score g q := by
  obtain ⟨a, ha, hd⟩ := div_nrm q
  unfold kscore score
  rw [mul_zero, add_zero, hd, mul_assoc, ← sum_mul_coe _ _ ha]
  congr 1
  refine Finset.sum_congr rfl fun c _ => ?_
  rw [hd, mul_assoc, mul_comm (q c * (a : EReal))]

/-- Multiplying by the named constant is dividing by the temperature's word. -/
theorem mul_inv_temp (s : EReal) : s * ((134217728 / 9395241 : ℝ) : EReal) = Ideal.div s temp := by
  rw [temp_val, Ideal.div_coe (by norm_num)]
  congr 2; norm_num

/-- The division by the temperature commutes with the sign. -/
theorem neg_div_temp (s : EReal) : Ideal.div (-s) temp = -Ideal.div s temp := by
  rw [← mul_inv_temp, ← mul_inv_temp, EReal.neg_mul]

/-- The reference's logit: the background row (0) is the negated score over the temperature, the foreground row (1) the
    score over the temperature. -/
def logit (s : Fin 2) (g q : Fin 512 → EReal) : EReal :=
  if s.val < 1 then Ideal.div (-score g q) temp else Ideal.div (score g q) temp

end Cert.Score

end
-- ==== Proof.Logits.lean ====
/- The logits region of the kernel's idealization at `Ideal`: what it leaves in its two result arrays, at an index, as the
   reference's logits of the prototype rows and of the queries it finds. -/
module

public import proofs.«01_k».proof.Proof.Proto
public import proofs.«01_k».proof.Proof.Score

@[expose] public section

set_option maxRecDepth 16384

noncomputable section

namespace Cert.KernelIdeal.Val

open Cert.KernelIdeal Cert.KernelIdeal.Gen Cert.Score
open Idealize.ShloMosaic Idealize.ShloMosaic.TcCoe Idealize.SL.Sem

/-- The kernel's named constant at `Ideal`. -/
theorem inv_temp_val :
    Named.named (F := Ideal) κ "inv_temp" (φ := .f32) 0x41649249#32 = ((134217728 / 9395241 : ℝ) : EReal) :=
  IdealRules.named_const.ideal_named_scalar _ _ _ _ rfl

/-- The prototype from the three rows an [8, 512] array holds. -/
def rows (P : S8x512.Idx → EReal) (k : Fin 512) : EReal := raw (P (ix2 0 k)) (P (ix2 1 k)) (P (ix2 2 k))

/-- The body's logit at a position: the score over the temperature, of the prototype of the three loaded rows and of the
    query block's channels at that position. -/
theorem pay3_apply (v0 v2 v4 : Vec Ideal S1x512 .f32) (x : Vec Ideal S1x512x4096 .f32) (p : Fin 4096) :
    k1_pay3 v0 v2 v4 x (ix1 p)
      = Ideal.div (score (fun k => raw (v0 (ix2 0 k)) (v2 (ix2 0 k)) (v4 (ix2 0 k))) fun k => x (ix3 0 k p)) temp := by
  rw [← kscore_eq, ← mul_inv_temp, ← inv_temp_val]
  pointwise [k1_pay3]
  simp only [mul_inv_count]
  unfold kscore nrm raw
  rfl

/-- The same over the whole blocks the body loads from. -/
theorem pay4_apply (x0 : Vec Ideal S1x512x4096 .f32) (x1 : Vec Ideal S8x512 .f32) (p : Fin 4096) :
    k1_pay4 x0 x1 (ix1 p) = Ideal.div (score (rows x1) fun k => x0 (ix3 0 k p)) temp := by
  unfold k1_pay4
  rw [pay3_apply]
  pointwise
  rfl

variable (V : (c : Dev nD) → (b : Ref sig .tc) → Buf (Elt Ideal) ((c : Thread nD τ).loc b))

/-- The block indices of the region's windows: the batch number, the prototype's one block, the batch number twice. -/
theorem idx1 : ∀ t : Fin cfg1.N, win1_0.index t = ![t.val, 0, 0] ∧ win1_1.index t = ![0, 0]
    ∧ win1_2.index t = ![t.val, 0, 0] ∧ win1_3.index t = ![t.val, 0, 0] := by decide +kernel

/-- The queries as the region finds them. -/
abbrev qry (c : Dev nD) : S8x512x4096.Idx → EReal := V c main_v2
/-- The prototype rows as the region finds them. -/
abbrev prt (c : Dev nD) : S8x512.Idx → EReal := V c main_v3

/-- The query block at a point is that batch's slice of the queries. -/
theorem blk_qry (c : Dev nD) (t : Fin cfg1.N) (k : Fin 512) (p : Fin 4096) :
    (iblk1 V c 0 t : Vec Ideal S1x512x4096 .f32) (ix3 0 k p) = qry V c (ix3 ⟨t.val, lt_of_lt_of_eq t.isLt N_1⟩ k p) := by
  blk_ext [iblk1, idx1 t]

/-- The prototype block at any point is the whole array. -/
theorem blk_prt (c : Dev nD) (t : Fin cfg1.N) : (iblk1 V c 1 t : Vec Ideal S8x512 .f32) = prt V c := by
  funext j
  blk_ext [iblk1, idx1 t]

/-- The foreground logits of batch `b` at position `p`. -/
def fg (c : Dev nD) (b : Fin 8) (p : Fin 4096) : EReal :=
  Ideal.div (score (rows (prt V c)) fun k => qry V c (ix3 b k p)) temp

/-- What the body computes at a point is that batch's foreground logits. -/
theorem point_fg (c : Dev nD) (t : Fin cfg1.N) (p : Fin 4096) :
    k1_pay4 (F := Ideal) (iblk1 V c 0 t) (iblk1 V c 1 t) (ix1 p) = fg V c ⟨t.val, lt_of_lt_of_eq t.isLt N_1⟩ p := by
  rw [pay4_apply, blk_prt]
  simp only [blk_qry]
  rfl

/-- The foreground array after the region. -/
theorem arr_fg (c : Dev nD) (b : Fin 8) (p : Fin 4096) :
    ((dat1 V c).arrAt 3 cfg1.N : S8x1x4096.Idx → EReal) (ix3 b 0 p) = fg V c b p := by
  have ha : ((dat1 V c).arrAt 3 cfg1.N : S8x1x4096.Idx → EReal) = fun j => fg V c (j 0) (j 2) := by
    refine (dat1 V c).arrAt_eq_of_covers 3 _ (by decide +kernel) fun t hf y => ?_
    rw [after1_3]
    frame_out
    have hy : ∀ y' : S1x1x4096.Idx, k1_pay1 (k1_pay4 (F := Ideal) (iblk1 V c 0 t) (iblk1 V c 1 t)) y'
        = fg V c ⟨t.val, lt_of_lt_of_eq t.isLt N_1⟩ (y' 2) := by
      intro y'
      idx_vars y'
      rw [← point_fg]
      pointwise [k1_pay1]
    refine (hy y).trans ?_
    have e0 : (⟨t.val, lt_of_lt_of_eq t.isLt N_1⟩ : Fin 8) = (((cfg1.win 3).blk t).view.emb y : S8x1x4096.Idx) 0 := by
      refine Fin.ext ?_
      blk_simp [idx1 t]
    have e2 : (y : S1x1x4096.Idx) 2 = (((cfg1.win 3).blk t).view.emb y : S8x1x4096.Idx) 2 := by
      refine Fin.ext ?_
      blk_simp [idx1 t]
    rw [e0, e2]
  rw [ha]
  rfl

/-- The background array after the region: the negated foreground logits. -/
theorem arr_bg (c : Dev nD) (b : Fin 8) (p : Fin 4096) :
    ((dat1 V c).arrAt 2 cfg1.N : S8x1x4096.Idx → EReal) (ix3 b 0 p) = -fg V c b p := by
  have ha : ((dat1 V c).arrAt 2 cfg1.N : S8x1x4096.Idx → EReal) = fun j => -fg V c (j 0) (j 2) := by
    refine (dat1 V c).arrAt_eq_of_covers 2 _ (by decide +kernel) fun t hf y => ?_
    rw [after1_2]
    frame_out
    have hy : ∀ y' : S1x1x4096.Idx, k1_pay2 (k1_pay4 (F := Ideal) (iblk1 V c 0 t) (iblk1 V c 1 t)) y'
        = -fg V c ⟨t.val, lt_of_lt_of_eq t.isLt N_1⟩ (y' 2) := by
      intro y'
      idx_vars y'
      rw [← point_fg]
      pointwise [k1_pay2]
      exact zero_sub _
    refine (hy y).trans ?_
    have e0 : (⟨t.val, lt_of_lt_of_eq t.isLt N_1⟩ : Fin 8) = (((cfg1.win 2).blk t).view.emb y : S8x1x4096.Idx) 0 := by
      refine Fin.ext ?_
      blk_simp [idx1 t]
    have e2 : (y : S1x1x4096.Idx) 2 = (((cfg1.win 2).blk t).view.emb y : S8x1x4096.Idx) 2 := by
      refine Fin.ext ?_
      blk_simp [idx1 t]
    rw [e0, e2]
  rw [ha]
  rfl

end Cert.KernelIdeal.Val

end
-- ==== Proof.RefValue.lean ====
/- The reference's result at an index: the logits of the prototype its sums give and of the query vector at the position. -/
module

public import proofs.«01_k».proof.Proof.Gen.ReferenceIdeal.Run
public import proofs.«01_k».proof.Proof.Score
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Cert.Score
open Idealize.ShloMosaic Idealize.ShloMosaic.TcCoe Idealize.SL.Sem

/-- The sum over batches, rows and columns at a channel. -/
theorem sum023 (v : S4x512x64x64.Idx → EReal) (k : Fin 512) :
    Ideal.hostReduceAdd reducesTo_S4x512x64x64_S512_d0_2_3 v 0 (ix1 k)
      = ∑ i : Fin 4, ∑ h : Fin 64, ∑ w : Fin 64, v (ix4 i k h w) := by
  unfold Ideal.hostReduceAdd
  rw [zero_add]
  refine (Finset.sum_filter_eq_sum_of_fiber _ (fun t : Fin 4 × Fin 64 × Fin 64 => (ix4 t.1 k t.2.1 t.2.2 : S4x512x64x64.Idx))
    (fun _ _ e => Prod.ext (congrFun e 0) (Prod.ext (congrFun e 2) (congrFun e 3))) (fun i => ?_) v).trans ?_
  · constructor
    · intro e
      refine ⟨(i 0, i 2, i 3), ?_⟩
      have hk : i 1 = k := Fin.ext (congrArg Fin.val (congrFun e 0))
      subst hk
      exact (eq_ix4 i).symm
    · rintro ⟨t, rfl⟩
      exact funext fun b => Fin.ext (by match b with | ⟨0, _⟩ => rfl)
  · simp only [Fintype.sum_prod_type]

/-- The sum of a one-channel array over all its entries. -/
theorem sum_all (v : S4x1x64x64.Idx → EReal) :
    Ideal.hostReduceAdd reducesTo_S4x1x64x64_S_d0_1_2_3 v 0 ix0
      = ∑ i : Fin 4, ∑ h : Fin 64, ∑ w : Fin 64, v (ix4 i 0 h w) := by
  unfold Ideal.hostReduceAdd
  rw [zero_add, Finset.filter_true_of_mem fun i _ => funext fun b : Fin 0 => b.elim0, sum_idx4]
  exact Finset.sum_congr rfl fun i _ => Fin.sum_univ_one _

/-- The prototype from whole feature and mask arrays: the sums over batches, rows and columns. -/
def proto (f : S4x512x64x64.Idx → EReal) (g : S4x1x64x64.Idx → EReal) (k : Fin 512) : EReal :=
  raw (∑ i : Fin 4, ∑ h : Fin 64, ∑ w : Fin 64, f (ix4 i k h w))
    (∑ i : Fin 4, ∑ h : Fin 64, ∑ w : Fin 64, f (ix4 i k h w) * g (ix4 i 0 h w))
    (∑ i : Fin 4, ∑ h : Fin 64, ∑ w : Fin 64, g (ix4 i 0 h w))

set_option maxHeartbeats 1000000 in
/-- The reference's result at batch `b`, class `s`, row `h` and column `w`. -/
theorem res_apply (m : (ℓ : Loc nD τ sig) → Buf (Elt Ideal) ℓ) (c : Dev nD) (b : Fin 8) (s : Fin 2) (h w : Fin 64) :
    (res_out0 m c : S8x2x64x64.Idx → EReal) (ix4 b s h w)
      = logit s (proto (m ((c.tc : Thread nD τ).loc main_arg0)) (m ((c.tc : Thread nD τ).loc main_arg1)))
          (fun k => (m ((c.tc : Thread nD τ).loc main_arg2) : S8x512x64x64.Idx → EReal) (ix4 b k h w)) := by
  unfold res_out0 res_main_v44
  clean_types
  pointwise
  simp only [sum023, sum_all]
  pointwise
  unfold logit score nrm proto raw
  rfl

end Cert.ReferenceIdeal.Value

end
-- ==== Proof.KValue.lean ====
/- The kernel's result at an index: its two regions and the reshapes around them composed, as the reference's logits of
   the launched arguments. -/
module

public import proofs.«01_k».proof.Proof.Logits
public import proofs.«01_k».proof.Proof.RefValue

@[expose] public section

set_option maxRecDepth 16384

noncomputable section

namespace Cert.KernelIdeal.Val

open Cert.KernelIdeal Cert.KernelIdeal.Gen Cert.Score
open Cert.ReferenceIdeal.Value (proto)
open Idealize.ShloMosaic Idealize.ShloMosaic.TcCoe Idealize.ShloMosaic.StableHlo Idealize.SL.Sem

variable (m : (ℓ : Loc nD τ sig) → Buf (Elt Ideal) ℓ) (ρ : Dev nD → PrngReg)

/-- The support features as launched. -/
abbrev arg0 (c : Dev nD) : S4x512x64x64.Idx → EReal := m ((c : Thread nD τ).loc main_arg0)
/-- The support mask as launched. -/
abbrev arg1 (c : Dev nD) : S4x1x64x64.Idx → EReal := m ((c : Thread nD τ).loc main_arg1)
/-- The queries as launched. -/
abbrev arg2 (c : Dev nD) : S8x512x64x64.Idx → EReal := m ((c : Thread nD τ).loc main_arg2)

/-- The features the first region finds: the launched ones, position `p` being row `p / 64`, column `p % 64`. -/
theorem feat_eq (c : Dev nD) (i : Fin 4) (k : Fin 512) (p : Fin 4096) (h1 : p.val / 64 < 64) (h2 : p.val % 64 < 64) :
    feat (V1 m ρ) c (ix3 i k p) = arg0 m c (ix4 i k ⟨p.val / 64, h1⟩ ⟨p.val % 64, h2⟩) := by
  have e : feat (V1 m ρ) c = shapeCast S4x512x4096 (arg0 m c : Vec Ideal S4x512x64x64 .f32) shapeCasts_S4x512x64x64_S4x512x4096 := by
    unfold feat V1 W1
    after_results_simp <;> rfl
  rw [e]
  pointwise

/-- The mask the first region finds. -/
theorem msk_eq (c : Dev nD) (i : Fin 4) (p : Fin 4096) (h1 : p.val / 64 < 64) (h2 : p.val % 64 < 64) :
    msk (V1 m ρ) c (ix3 i 0 p) = arg1 m c (ix4 i 0 ⟨p.val / 64, h1⟩ ⟨p.val % 64, h2⟩) := by
  have e : msk (V1 m ρ) c = shapeCast S4x1x4096 (arg1 m c : Vec Ideal S4x1x64x64 .f32) shapeCasts_S4x1x64x64_S4x1x4096 := by
    unfold msk V1 W1
    after_results_simp <;> rfl
  rw [e]
  pointwise

/-- The queries the second region finds, at a position given by its row and column. -/
theorem qry_eq (c : Dev nD) (b : Fin 8) (k : Fin 512) (h w : Fin 64) (hp : h.val * 64 + w.val < 4096) :
    qry (V2 m ρ) c (ix3 b k ⟨h.val * 64 + w.val, hp⟩) = arg2 m c (ix4 b k h w) := by
  have e : qry (V2 m ρ) c = shapeCast S8x512x4096 (arg2 m c : Vec Ideal S8x512x64x64 .f32) shapeCasts_S8x512x64x64_S8x512x4096 := by
    refine (W2_of m ρ c main_v2 (by decide +kernel)).trans ?_
    unfold W1
    after_results_simp <;> rfl
  rw [e]
  pointwise

/-- The features' sum over the first region's positions is the sum over rows and columns. -/
theorem sum_feat (c : Dev nD) (k : Fin 512) : (∑ i : Fin 4, ∑ p : Fin 4096, feat (V1 m ρ) c (ix3 i k p))
    = ∑ i : Fin 4, ∑ h : Fin 64, ∑ w : Fin 64, arg0 m c (ix4 i k h w) :=
  Finset.sum_congr rfl fun i _ => Fin.sum_divmod_congr (f := fun h w : Fin 64 => arg0 m c (ix4 i k h w))
    fun p h1 h2 => feat_eq m ρ c i k p h1 h2

/-- The masked features' sum likewise. -/
theorem sum_feat_msk (c : Dev nD) (k : Fin 512) :
    (∑ i : Fin 4, ∑ p : Fin 4096, feat (V1 m ρ) c (ix3 i k p) * msk (V1 m ρ) c (ix3 i 0 p))
      = ∑ i : Fin 4, ∑ h : Fin 64, ∑ w : Fin 64, arg0 m c (ix4 i k h w) * arg1 m c (ix4 i 0 h w) :=
  Finset.sum_congr rfl fun i _ => Fin.sum_divmod_congr
    (f := fun h w : Fin 64 => arg0 m c (ix4 i k h w) * arg1 m c (ix4 i 0 h w))
    fun p h1 h2 => congrArg₂ (· * ·) (feat_eq m ρ c i k p h1 h2) (msk_eq m ρ c i p h1 h2)

/-- The mask's sum likewise. -/
theorem sum_msk (c : Dev nD) : (∑ i : Fin 4, ∑ p : Fin 4096, msk (V1 m ρ) c (ix3 i 0 p))
    = ∑ i : Fin 4, ∑ h : Fin 64, ∑ w : Fin 64, arg1 m c (ix4 i 0 h w) :=
  Finset.sum_congr rfl fun i _ => Fin.sum_divmod_congr (f := fun h w : Fin 64 => arg1 m c (ix4 i 0 h w))
    fun p h1 h2 => msk_eq m ρ c i p h1 h2

/-- The prototype the second region finds is the launched arguments' prototype. -/
theorem rows_eq (c : Dev nD) : rows (prt (V2 m ρ) c) = proto (arg0 m c) (arg1 m c) := by
  have e : prt (V2 m ρ) c = ((dat0 (V1 m ρ) c).arrAt 2 cfg0.N : S8x512.Idx → EReal) := W2_arr m ρ c 2
  funext k
  unfold rows proto
  rw [e, arr_row0, arr_row1, arr_row2, sum_feat, sum_feat_msk, sum_msk]

/-- The foreground logits the second region leaves, at a position given by its row and column. -/
theorem fg_eq (c : Dev nD) (b : Fin 8) (h w : Fin 64) (hp : h.val * 64 + w.val < 4096) :
    fg (V2 m ρ) c b ⟨h.val * 64 + w.val, hp⟩
      = Ideal.div (score (proto (arg0 m c) (arg1 m c)) fun k => arg2 m c (ix4 b k h w)) temp := by
  unfold fg
  rw [rows_eq]
  exact congrArg (fun q => Ideal.div (score (proto (arg0 m c) (arg1 m c)) q) temp) (funext fun k => qry_eq m ρ c b k h w hp)

/-- The two arrays the second region leaves, one after the other along the class axis, the positions split into rows and
    columns. -/
theorem v6_eq (c : Dev nD) : W4 m ρ c (Proc.devRef .tc main_v6)
    = shapeCast S8x2x64x64 (concatenate S8x2x4096 1
        [⟨S8x1x4096, ((dat1 (V2 m ρ) c).arrAt 2 cfg1.N : Vec Ideal S8x1x4096 .f32)⟩,
         ⟨S8x1x4096, ((dat1 (V2 m ρ) c).arrAt 3 cfg1.N : Vec Ideal S8x1x4096 .f32)⟩]
        concatenates_S8x1x4096_S8x1x4096_S8x2x4096_d1 : Vec Ideal S8x2x4096 .f32) shapeCasts_S8x2x4096_S8x2x64x64 := by
  rw [← W3_arr m ρ c 2, ← W3_arr m ρ c 3]
  unfold W4
  after_results_simp <;> rfl

/-- The kernel's result at batch `b`, class `s`, row `h` and column `w`. -/
theorem res_apply (c : Dev nD) (b : Fin 8) (s : Fin 2) (h w : Fin 64) :
    (W4 m ρ c (Proc.devRef .tc main_v6) : S8x2x64x64.Idx → EReal) (ix4 b s h w)
      = logit s (proto (arg0 m c) (arg1 m c)) fun k => arg2 m c (ix4 b k h w) := by
  rw [v6_eq]
  pointwise
  have hp : h.val * 64 + w.val < 4096 := by omega
  unfold logit
  split
  · rename_i hs
    have e : (⟨s.val, by omega⟩ : Fin 1) = 0 := Subsingleton.elim _ _
    rw [neg_div_temp, ← fg_eq m ρ c b h w hp, ← arr_bg, ← e]
  · rename_i hs
    have e : (⟨s.val - 1, by omega⟩ : Fin 1) = 0 := Subsingleton.elim _ _
    rw [← fg_eq m ρ c b h w hp, ← arr_fg, ← e]

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.KValue
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- The kernel runs, leaves its arguments unchanged and every counter at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does the reference's, which has no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's one named constant is, at `Ideal`, the value the certificate's table gives it. -/
theorem preserves : Cert.preserves_Kernel_KernelIdeal :=
  IdealRules.named_const.statement Cert.KernelIdeal.κ "inv_temp" .f32 0x41649249#32 ((134217728 / 9395241 : ℝ) : EReal) rfl

/-- From agreeing arguments the two results are equal at every index. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (j : Cert.ReferenceIdeal.S8x2x64x64.Idx) :
    (Cert.ReferenceIdeal.Value.res_out0 m' c : Cert.ReferenceIdeal.S8x2x64x64.Idx → EReal) j
      = (Cert.KernelIdeal.Gen.W4 m ρ c (Proc.devRef .tc Cert.KernelIdeal.main_v6) : Cert.KernelIdeal.S8x2x64x64.Idx → EReal) j := by
  rw [eq_ix4 j]
  refine (Cert.ReferenceIdeal.Value.res_apply m' c (j 0) (j 1) (j 2) (j 3)).trans ?_
  rw [h0, h1, h2]
  exact (Cert.KernelIdeal.Val.res_apply m ρ c (j 0) (j 1) (j 2) (j 3)).symm

/-- Both programs run from agreeing arguments and end with equal results. -/
theorem algebraic : Cert.algebraic_KernelIdeal_ReferenceIdeal := by
  intro m ρ m' ρ' _ hagree
  refine ⟨fun c => Cert.KernelIdeal.Gen.W4 m ρ c (Proc.devRef .tc Cert.KernelIdeal.main_v6), Cert.KernelIdeal.Val.run m ρ, ?_⟩
  exact (θ_run Cert.ReferenceIdeal.defs _ _).mono
    (fun _ h c => ⟨(h c).1.trans (funext fun j => result_eq m ρ m' c (hagree c).1 (hagree c).2.1 (hagree c).2.2 j), (h c).2⟩)
    (Cert.ReferenceIdeal.Value.run (F := Ideal) m' ρ')

theorem claim : Cert.Claim := ⟨Cert.Kernel.Gen.facts, Cert.KernelIdeal.Gen.facts, Cert.ReferenceIdeal.Gen.facts,
  frame_p, frame_pi, frame_ri, preserves, algebraic⟩

end Cert.Proof

end
